-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  main_v3
-- ==== Kernel.lean ====
abbrev S4x4096x3 : Shape := ⟨3, ![4, 4096, 3]⟩
abbrev S4x8x128 : Shape := ⟨3, ![4, 8, 128]⟩
abbrev S1x4096x3 : Shape := ⟨3, ![1, 4096, 3]⟩
abbrev S1x8x128 : Shape := ⟨3, ![1, 8, 128]⟩
abbrev S4096x3 : Shape := ⟨2, ![4096, 3]⟩
abbrev S3x4096 : Shape := ⟨2, ![3, 4096]⟩
abbrev S1x4096 : Shape := ⟨2, ![1, 4096]⟩
abbrev S8x4096 : Shape := ⟨2, ![8, 4096]⟩
abbrev S4096 : Shape := ⟨1, ![4096]⟩
abbrev S8x256 : Shape := ⟨2, ![8, 256]⟩
abbrev S256x4096 : Shape := ⟨2, ![256, 4096]⟩
abbrev S256 : Shape := ⟨1, ![256]⟩
abbrev S1x256 : Shape := ⟨2, ![1, 256]⟩
abbrev S1 : Shape := ⟨1, ![1]⟩
abbrev S1x1 : Shape := ⟨2, ![1, 1]⟩
abbrev S8x3840 : Shape := ⟨2, ![8, 3840]⟩
abbrev S256x3840 : Shape := ⟨2, ![256, 3840]⟩
abbrev S3840 : Shape := ⟨1, ![3840]⟩
abbrev S8x3584 : Shape := ⟨2, ![8, 3584]⟩
abbrev S256x3584 : Shape := ⟨2, ![256, 3584]⟩
abbrev S3584 : Shape := ⟨1, ![3584]⟩
abbrev S512 : Shape := ⟨1, ![512]⟩
abbrev S8x3328 : Shape := ⟨2, ![8, 3328]⟩
abbrev S256x3328 : Shape := ⟨2, ![256, 3328]⟩
abbrev S3328 : Shape := ⟨1, ![3328]⟩
abbrev S768 : Shape := ⟨1, ![768]⟩
abbrev S8x3072 : Shape := ⟨2, ![8, 3072]⟩
abbrev S256x3072 : Shape := ⟨2, ![256, 3072]⟩
abbrev S3072 : Shape := ⟨1, ![3072]⟩
abbrev S1024 : Shape := ⟨1, ![1024]⟩
abbrev S8x2816 : Shape := ⟨2, ![8, 2816]⟩
abbrev S256x2816 : Shape := ⟨2, ![256, 2816]⟩
abbrev S2816 : Shape := ⟨1, ![2816]⟩
abbrev S1280 : Shape := ⟨1, ![1280]⟩
abbrev S8x2560 : Shape := ⟨2, ![8, 2560]⟩
abbrev S256x2560 : Shape := ⟨2, ![256, 2560]⟩
abbrev S2560 : Shape := ⟨1, ![2560]⟩
abbrev S1536 : Shape := ⟨1, ![1536]⟩
abbrev S8x2304 : Shape := ⟨2, ![8, 2304]⟩
abbrev S256x2304 : Shape := ⟨2, ![256, 2304]⟩
abbrev S2304 : Shape := ⟨1, ![2304]⟩
abbrev S1792 : Shape := ⟨1, ![1792]⟩
abbrev S8x2048 : Shape := ⟨2, ![8, 2048]⟩
abbrev S256x2048 : Shape := ⟨2, ![256, 2048]⟩
abbrev S2048 : Shape := ⟨1, ![2048]⟩
abbrev S8x1792 : Shape := ⟨2, ![8, 1792]⟩
abbrev S256x1792 : Shape := ⟨2, ![256, 1792]⟩
abbrev S8x1536 : Shape := ⟨2, ![8, 1536]⟩
abbrev S256x1536 : Shape := ⟨2, ![256, 1536]⟩
abbrev S8x1280 : Shape := ⟨2, ![8, 1280]⟩
abbrev S256x1280 : Shape := ⟨2, ![256, 1280]⟩
abbrev S8x1024 : Shape := ⟨2, ![8, 1024]⟩
abbrev S256x1024 : Shape := ⟨2, ![256, 1024]⟩
abbrev S8x768 : Shape := ⟨2, ![8, 768]⟩
abbrev S256x768 : Shape := ⟨2, ![256, 768]⟩
abbrev S8x512 : Shape := ⟨2, ![8, 512]⟩
abbrev S256x512 : Shape := ⟨2, ![256, 512]⟩
abbrev S256x256 : Shape := ⟨2, ![256, 256]⟩
abbrev S8x128 : Shape := ⟨2, ![8, 128]⟩
abbrev S4x1x1 : Shape := ⟨3, ![4, 1, 1]⟩
abbrev S4 : Shape := ⟨1, ![4]⟩
abbrev S_ : Shape := ⟨0, ![]⟩

abbrev nBuf : Space → Nat
  | .hbm => 8
  | .vmem => 4
  | .smem => 0
  | _ => 0

abbrev bufTy : (tb : Table) → Fin (tcTables nBuf tb) → BufTy
  | .hbm, ⟨0, _⟩ => ⟨S4x4096x3, .f32⟩
  | .hbm, ⟨1, _⟩ => ⟨S4x8x128, .f32⟩
  | .hbm, ⟨2, _⟩ => ⟨S4x1x1, .f32⟩
  | .hbm, ⟨3, _⟩ => ⟨S4, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x4096x3, .f32⟩
  | .local _ .vmem, ⟨1, _⟩ => ⟨S1x4096x3, .f32⟩
  | .local _ .vmem, ⟨2, _⟩ => ⟨S1x8x128, .f32⟩
  | .local _ .vmem, ⟨3, _⟩ => ⟨S1x8x128, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S4x4096x3 : Shape := ⟨3, ![4, 4096, 3]⟩
abbrev S3 : Shape := ⟨1, ![3]⟩
abbrev S1x1x3 : Shape := ⟨3, ![1, 1, 3]⟩
abbrev S_ : Shape := ⟨0, ![]⟩
abbrev S4x4096 : Shape := ⟨2, ![4, 4096]⟩
abbrev S4x4096x1 : Shape := ⟨3, ![4, 4096, 1]⟩
abbrev S4x4096x4096 : Shape := ⟨3, ![4, 4096, 4096]⟩
abbrev S4x1x4096 : Shape := ⟨3, ![4, 1, 4096]⟩
abbrev S4 : Shape := ⟨1, ![4]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S3, .f32⟩
  | .hbm, ⟨2, _⟩ => ⟨S1x1x3, .f32⟩
  | .hbm, ⟨3, _⟩ => ⟨S4x4096x3, .f32⟩
  | .hbm, ⟨4, _⟩ => ⟨S4x4096x3, .f32⟩
  | .hbm, ⟨5, _⟩ => ⟨S4x4096x3, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S4x4096x3, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S4x4096x4096, .f32⟩
  | .hbm, ⟨14, _⟩ => ⟨S4x1x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4x4096, .f32⟩
  | .hbm, ⟨26, _⟩ => ⟨S_, .f32⟩
  | .hbm, ⟨27, _⟩ => ⟨S4, .f32⟩
  | .hbm, ⟨28, _⟩ => ⟨S_, .f32⟩
  | .hbm, ⟨29, _⟩ => ⟨S4, .f32⟩
  | .hbm, ⟨30, _⟩ => ⟨S4, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S_, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S4, .f32⟩
  | .hbm, ⟨44, _⟩ => ⟨S4, .f32⟩
  | .hbm, ⟨45, _⟩ => ⟨S4, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_cst_4 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_cst_6 : Ref sig .tc := ⟨.hbm, 28, rfl⟩
abbrev main_v20 : Ref sig .tc := ⟨.hbm, 29, rfl⟩
abbrev main_v21 : Ref sig .tc := ⟨.hbm, 30, rfl⟩
abbrev main_cst_7 : Ref sig .tc := ⟨.hbm, 31, rfl⟩
abbrev main_v22 : Ref sig .tc := ⟨.hbm, 32, rfl⟩
abbrev main_cst_8 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_9 : Ref sig .tc := ⟨.hbm, 37, rfl⟩
abbrev main_v26 : Ref sig .tc := ⟨.hbm, 38, rfl⟩
abbrev main_cst_10 : Ref sig .tc := ⟨.hbm, 39, rfl⟩
abbrev main_v27 : Ref sig .tc := ⟨.hbm, 40, rfl⟩
abbrev main_v28 : Ref sig .tc := ⟨.hbm, 41, rfl⟩
abbrev main_cst_11 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_12 : Ref sig .tc := ⟨.hbm, 46, rfl⟩
abbrev main_v32 : Ref sig .tc := ⟨.hbm, 47, rfl⟩
abbrev main_cst_13 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== Proof.Fold.lean ====
/- The order and sum facts behind the chamfer kernel's one pass over the upper half of a symmetric matrix of
   distances, for any square matrix with values in the extended reals. Nothing here mentions a program. -/
module

public import Mathlib.Data.EReal.Basic
public import Mathlib.Algebra.BigOperators.Fin
public import Mathlib.Order.ConditionallyCompleteLattice.Finset

@[expose] public section

noncomputable section

namespace Cert.Chamfer

variable {n : ℕ}

/-- The least entry of column `j` over the rows before row `b` (`⊤` when there are none). -/
def colMin (D : Fin n → Fin n → EReal) (b : ℕ) (j : Fin n) : EReal :=
  (Finset.univ.filter fun i : Fin n => i.val < b).inf fun i => D i j

/-- The least entry of row `i`. -/
def rowMin (D : Fin n → Fin n → EReal) (i : Fin n) : EReal := Finset.univ.inf fun j => D i j

/-- The sum of the row minima over the rows before row `b`. -/
def rowSum (D : Fin n → Fin n → EReal) (b : ℕ) : EReal :=
  ∑ i ∈ Finset.univ.filter (fun i : Fin n => i.val < b), rowMin D i

variable {D : Fin n → Fin n → EReal}

theorem colMin_zero (j : Fin n) : colMin D 0 j = ⊤ := by simp [colMin]

theorem rowSum_zero : rowSum D 0 = 0 := by simp [rowSum]

theorem rowSum_all : rowSum D n = ∑ i, rowMin D i := by
  simp [rowSum, Finset.filter_true_of_mem]

/-- Row `r` of the `h` rows from row `b` on. -/
def row (b h : ℕ) (hb : b + h ≤ n) : Fin h ↪ Fin n where
  toFun r := ⟨b + r.val, by omega⟩
  inj' r s hrs := by
    have : b + r.val = b + s.val := congrArg Fin.val hrs
    exact Fin.ext (by omega)

theorem row_val (b h : ℕ) (hb : b + h ≤ n) (r : Fin h) : (row b h hb r).val = b + r.val := rfl

/-- The rows before `b + h` are those before `b` and the `h` rows from `b` on. -/
theorem rows_split (b h : ℕ) (hb : b + h ≤ n) :
    (Finset.univ.filter fun i : Fin n => i.val < b + h)
      = (Finset.univ.filter fun i : Fin n => i.val < b) ∪ Finset.univ.map (row b h hb) := by
  ext i
  simp only [Finset.mem_filter, Finset.mem_univ, true_and, Finset.mem_union, Finset.mem_map, Fin.ext_iff, row_val]
  constructor
  · intro hi
    by_cases h' : i.val < b
    · exact .inl h'
    · exact .inr ⟨⟨i.val - b, by omega⟩, by simp only []; omega⟩
  · rintro (hi | ⟨r, hr⟩)
    · omega
    · have := r.isLt
      omega

/-- A column minimum over `h` further rows. -/
theorem colMin_add (b h : ℕ) (hb : b + h ≤ n) (j : Fin n) :
    colMin D (b + h) j
      = min (colMin D b j) (Finset.univ.inf fun r : Fin h => D (row b h hb r) j) := by
  unfold colMin
  rw [rows_split b h hb, Finset.inf_union, Finset.inf_map]
  rfl

/-- The sum of the row minima over `h` further rows. -/
theorem rowSum_add (b h : ℕ) (hb : b + h ≤ n) :
    rowSum D (b + h) = rowSum D b + ∑ r : Fin h, rowMin D (row b h hb r) := by
  unfold rowSum
  rw [rows_split b h hb, Finset.sum_union, Finset.sum_map]
  · rw [Finset.disjoint_left]
    intro i hi hi'
    simp only [Finset.mem_filter, Finset.mem_univ, true_and, Finset.mem_map, Fin.ext_iff, row_val] at hi hi'
    obtain ⟨r, hr⟩ := hi'
    omega

/-- In a symmetric matrix the minimum of row `i` is the least of two numbers: the row's minimum from column `b` on,
    and the minimum of COLUMN `i` over the rows before row `b`. -/
theorem min_tail_colMin (hD : ∀ i j, D i j = D j i) (b w : ℕ) (hb : b + w = n) (i : Fin n) :
    min (Finset.univ.inf fun c : Fin w => D i (row b w hb.le c)) (colMin D b i) = rowMin D i := by
  apply le_antisymm
  · refine Finset.le_inf fun j _ => ?_
    by_cases h : j.val < b
    · refine (min_le_right _ _).trans ?_
      rw [hD i j]
      exact Finset.inf_le (f := fun k => D k i) (by simpa using h)
    · refine (min_le_left _ _).trans ?_
      have := Finset.inf_le (f := fun c : Fin w => D i (row b w hb.le c))
        (Finset.mem_univ (⟨j.val - b, by omega⟩ : Fin w))
      refine this.trans (le_of_eq ?_)
      exact congrArg (D i) (Fin.ext (by rw [row_val]; simp only []; omega))
  · refine le_min (Finset.le_inf fun c _ => Finset.inf_le (Finset.mem_univ _)) ?_
    refine Finset.le_inf fun k _ => ?_
    rw [hD k i]
    exact Finset.inf_le (f := fun j => D i j) (Finset.mem_univ _)

/-- A row minimum of a matrix of real numbers is a real number. -/
theorem rowMin_real [NeZero n] (hD : ∀ i j, ∃ x : ℝ, D i j = x) (i : Fin n) : ∃ x : ℝ, rowMin D i = x := by
  obtain ⟨j, -, hj⟩ := Finset.exists_mem_eq_inf (Finset.univ : Finset (Fin n)) Finset.univ_nonempty fun j => D i j
  obtain ⟨x, hx⟩ := hD i j
  exact ⟨x, hj.trans hx⟩

/-- A finite sum of real numbers is a real number. -/
theorem sum_real {ι : Type} (s : Finset ι) (f : ι → EReal) (hf : ∀ i, ∃ x : ℝ, f i = x) :
    ∃ x : ℝ, ∑ i ∈ s, f i = x := by
  choose g hg using hf
  simp only [hg]
  classical
  induction s using Finset.induction_on with
  | empty => exact ⟨0, by simp⟩
  | insert a s ha ih =>
    obtain ⟨x, hx⟩ := ih
    exact ⟨g a + x, by rw [Finset.sum_insert ha, hx, EReal.coe_add]⟩

end Cert.Chamfer

end
-- ==== Proof.Consts.lean ====
/- The float constants of the two programs, as extended reals. -/
module

public import Idealize.ShloMosaic.Lib.Pointwise

@[expose] public section

namespace Cert.Chamfer

open Idealize.ShloMosaic

theorem ofBits_inf : Ideal.ofBits .f32 0x7F800000#32 = ⊤ := by simp [Ideal.ofBits, Ideal.ieee]

theorem ofBits_neg_one : Ideal.ofBits .f32 0xBF800000#32 = ((-1 : ℝ) : EReal) := by
  simp [Ideal.ofBits, Ideal.ieee, ← EReal.coe_mul]
  norm_num

theorem ofBits_one : Ideal.ofBits .f32 0x3F800000#32 = ((1 : ℝ) : EReal) := by
  simp [Ideal.ofBits, Ideal.ieee, ← EReal.coe_mul]
  norm_num

theorem ofBits_two : Ideal.ofBits .f32 0x40000000#32 = ((2 : ℝ) : EReal) := by
  simp [Ideal.ofBits, Ideal.ieee, ← EReal.coe_mul]
  norm_num

theorem ofBits_neg_two : Ideal.ofBits .f32 0xC0000000#32 = ((-2 : ℝ) : EReal) := by
  simp [Ideal.ofBits, Ideal.ieee, ← EReal.coe_mul]
  norm_num

theorem ofBits_four : Ideal.ofBits .f32 0x40800000#32 = ((4 : ℝ) : EReal) := by
  simp [Ideal.ofBits, Ideal.ieee, ← EReal.coe_mul]
  norm_num

theorem ofBits_4096 : Ideal.ofBits .f32 0x45800000#32 = ((4096 : ℝ) : EReal) := by
  simp [Ideal.ofBits, Ideal.ieee, ← EReal.coe_mul]
  norm_num

/-- The kernel's last factor is `1 / 8192`. -/
theorem ofBits_scale : Ideal.ofBits .f32 0x39000000#32 = ((1 / 8192 : ℝ) : EReal) := by
  simp [Ideal.ofBits, Ideal.ieee, ← EReal.coe_mul]
  norm_num

end Cert.Chamfer
-- ==== Proof.Tile.lean ====
/- One tile of the chamfer kernel, at any base row `b` and any width `w`: what its product, its two minima, its sum and
   its update of the running column minima are at an index, and the two invariants that a tile keeps. The kernel takes
   sixteen tiles of 256 rows; every one of them is an instance of the lemmas here. -/
module

public import proofs.«01_k».proof.Proof.Fold
public import proofs.«01_k».proof.Proof.Consts
public import Idealize.ShloMosaic.Lib.Pointwise.IndexVar

@[expose] public section

set_option maxRecDepth 16384

noncomputable section

namespace Cert.Chamfer

open Idealize.ShloMosaic

/-- The dimension numbers of `qᵀ p`: both operands contract their first axis. -/
def dotRows (w : ℕ) (wf : DotDims.WF ⟨2, ![8, 256]⟩ ⟨2, ![8, w]⟩ ⟨2, ![256, w]⟩ [0] [0] [1] [1] [] []) :
    DotDims ⟨2, ![8, 256]⟩ ⟨2, ![8, w]⟩ ⟨2, ![256, w]⟩ where
  lhsContracting := [0]
  rhsContracting := [0]
  lhsNonContracting := [1]
  rhsNonContracting := [1]
  lhsBatch := []
  rhsBatch := []
  wf := wf

variable {b w : ℕ}

/-! ## The operations of a tile, at an index -/

theorem prod_at (wf) (x : FVec Ideal ⟨2, ![8, 256]⟩ .bf16) (y : FVec Ideal ⟨2, ![8, w]⟩ .bf16) (r : Fin 256) (c : Fin w) :
    matmul (dotRows w wf) none x y (constant ⟨2, ![256, w]⟩ .f32 0x00000000#32) (ix2 r c)
      = ∑ k : Fin 8, x (ix2 k r) * y (ix2 k c) := by
  pointwise [dotRows]

theorem rowRed_at (d : FVec Ideal ⟨2, ![256, w]⟩ .f32) (h) (hφ) (r : Fin 256) :
    multiReduction .minimumf [1] ⟨1, ![256]⟩ d 0x7F800000#32 h hφ rfl (ix1 r)
      = Finset.univ.inf fun c : Fin w => d (ix2 r c) := by
  pointwise
  rw [ofBits_inf]
  rfl

theorem colRed_at (d : FVec Ideal ⟨2, ![256, w]⟩ .f32) (h) (hφ) (c : Fin w) :
    multiReduction .minimumf [0] ⟨1, ![w]⟩ d 0x7F800000#32 h hφ rfl (ix1 c)
      = Finset.univ.inf fun r : Fin 256 => d (ix2 r c) := by
  pointwise
  rw [ofBits_inf]
  rfl

theorem sum_at (v : FVec Ideal ⟨1, ![256]⟩ .f32) (h1 h2 h3 h4 h5) (acc : EReal) :
    Scalar.addf (F := Ideal) (φ := .f32) acc (extractAt ![0, 0] (shapeCast ⟨2, ![1, 1]⟩ (multiReduction .add [1] ⟨1, ![1]⟩
      (shapeCast ⟨2, ![1, 256]⟩ v h1) 0x00000000#32 h2 h3 rfl) h4) h5) = acc + ∑ r : Fin 256, v (ix1 r) := by
  pointwise

theorem slice1_at (n : ℕ) (x : FVec Ideal ⟨1, ![4096]⟩ .f32) (h) (c : Fin n) (hb : b + n ≤ 4096) :
    extractStridedSlice ⟨1, ![n]⟩ ![b] x h (ix1 c) = x (ix1 (row b n hb c)) := by
  pointwise
  rfl

theorem slice2_at (n : ℕ) (x : FVec Ideal ⟨2, ![8, 4096]⟩ .bf16) (h) (k : Fin 8) (c : Fin n) (hb : b + n ≤ 4096) :
    extractStridedSlice ⟨2, ![8, n]⟩ ![0, b] x h (ix2 k c) = x (ix2 k (row b n hb c)) := by
  pointwise
  rfl

/-- The second piece of a stack of two vectors. -/
theorem cat_at (x : FVec Ideal ⟨1, ![b]⟩ .f32) (y : FVec Ideal ⟨1, ![w]⟩ .f32) (h) (c : Fin w) (hb : b + w ≤ 4096) :
    concatenate ⟨1, ![4096]⟩ 0 [⟨⟨1, ![b]⟩, x⟩, ⟨⟨1, ![w]⟩, y⟩] h (ix1 (row b w hb c)) = y (ix1 c) := by
  pointwise
  have hc : ((row b w hb c : Fin 4096) : ℕ) = b + c := rfl
  rw [dif_neg (by omega)]
  exact congrArg y (congrArg ix1 (Fin.ext (by simp only [hc]; omega)))

/-! ## The invariants -/

/-- `t` holds the entries of `D` at the 256 rows and the `w` columns from `b` on. -/
def TileIs (D : Fin 4096 → Fin 4096 → EReal) (b w : ℕ) (t : FVec Ideal ⟨2, ![256, w]⟩ .f32) : Prop :=
  ∀ (h : b + 256 ≤ 4096) (h' : b + w ≤ 4096) (r : Fin 256) (c : Fin w), t (ix2 r c) = D (row b 256 h r) (row b w h' c)

/-- From column `b` on, `run` holds the column minima over the rows before `b`. -/
def RunIs (D : Fin 4096 → Fin 4096 → EReal) (b : ℕ) (run : FVec Ideal ⟨1, ![4096]⟩ .f32) : Prop :=
  ∀ j : Fin 4096, b ≤ j.val → run (ix1 j) = colMin D b j

/-- `acc` is the sum of the row minima over the rows before `b`. -/
def AccIs (D : Fin 4096 → Fin 4096 → EReal) (b : ℕ) (acc : EReal) : Prop := acc = rowSum D b

variable {D : Fin 4096 → Fin 4096 → EReal} {q p : FVec Ideal ⟨2, ![8, 4096]⟩ .bf16}
  {t : FVec Ideal ⟨2, ![256, w]⟩ .f32} {run : FVec Ideal ⟨1, ![4096]⟩ .f32} {acc : EReal}

/-- Where the columns of `q` and `p` multiply to `D`, the product of their slices is a tile of `D`. -/
theorem tileIs (hqp : ∀ i j : Fin 4096, ∑ k : Fin 8, q (ix2 k i) * p (ix2 k j) = D i j) (wf hq hp) :
    TileIs D b w (matmul (dotRows w wf) none (extractStridedSlice ⟨2, ![8, 256]⟩ ![0, b] q hq)
      (extractStridedSlice ⟨2, ![8, w]⟩ ![0, b] p hp) (constant ⟨2, ![256, w]⟩ .f32 0x00000000#32)) := by
  intro h h' r c
  rw [prod_at, ← hqp]
  exact Finset.sum_congr rfl fun k _ => by rw [slice2_at _ _ _ _ _ h, slice2_at _ _ _ _ _ h']

/-- The first tile, whose columns are all of them: `p` is not sliced. -/
theorem tileIs_first (hqp : ∀ i j : Fin 4096, ∑ k : Fin 8, q (ix2 k i) * p (ix2 k j) = D i j) (wf hq) :
    TileIs D 0 4096 (matmul (dotRows 4096 wf) none (extractStridedSlice ⟨2, ![8, 256]⟩ ![0, 0] q hq)
      p (constant ⟨2, ![256, 4096]⟩ .f32 0x00000000#32)) := by
  intro h h' r c
  rw [prod_at, ← hqp]
  refine Finset.sum_congr rfl fun k _ => ?_
  rw [slice2_at _ _ _ _ _ h]
  have hc : row 0 4096 h' c = c := Fin.ext (by rw [row_val, Nat.zero_add])
  rw [hc]

/-- What the body makes of the sum of the row minima for a tile: it adds, over the tile's 256 rows, the least of the
    tile's row minimum and the running column minimum. -/
abbrev nextAcc (b w : ℕ) (acc : EReal) (run : FVec Ideal ⟨1, ![4096]⟩ .f32) (t : FVec Ideal ⟨2, ![256, w]⟩ .f32)
    (h1 : Shape.ShapeCasts ⟨1, ![256]⟩ ⟨2, ![1, 256]⟩) (h2 : Shape.Reduces ⟨2, ![1, 256]⟩ [1] ⟨1, ![1]⟩)
    (h3 : FKind.Formats .f32) (h4 : Shape.ShapeCasts ⟨1, ![1]⟩ ⟨2, ![1, 1]⟩)
    (h5 : ∀ a : Fin 2, (![0, 0] : Fin 2 → ℕ) a < (![1, 1] : Fin 2 → ℕ) a) (h6 : Shape.Reduces ⟨2, ![256, w]⟩ [1] ⟨1, ![256]⟩)
    (h7 : FKind.Formats .f32) (h8 : Shape.Slices ⟨1, ![4096]⟩ ![b] ⟨1, ![256]⟩) : EReal :=
  Scalar.addf (F := Ideal) (φ := .f32) acc (extractAt ![0, 0] (shapeCast ⟨2, ![1, 1]⟩
    (multiReduction .add [1] ⟨1, ![1]⟩ (shapeCast ⟨2, ![1, 256]⟩
      (minimumf (multiReduction .minimumf [1] ⟨1, ![256]⟩ t 0x7F800000#32 h6 h7 rfl)
        (extractStridedSlice ⟨1, ![256]⟩ ![b] run h8)) h1) 0x00000000#32 h2 h3 rfl) h4) h5)

/-- What the body makes of the running column minima for a tile: it keeps those before `b` and takes the tile in from
    `b` on. -/
abbrev nextRun (b w : ℕ) (run : FVec Ideal ⟨1, ![4096]⟩ .f32) (t : FVec Ideal ⟨2, ![256, w]⟩ .f32)
    (h1 : Shape.Slices ⟨1, ![4096]⟩ ![0] ⟨1, ![b]⟩) (h2 : Shape.Slices ⟨1, ![4096]⟩ ![b] ⟨1, ![w]⟩)
    (h6 : Shape.Reduces ⟨2, ![256, w]⟩ [0] ⟨1, ![w]⟩) (h7 : FKind.Formats .f32)
    (h3 : Shape.Concatenates [⟨1, ![b]⟩, ⟨1, ![w]⟩] ⟨1, ![4096]⟩ 0) : FVec Ideal ⟨1, ![4096]⟩ .f32 :=
  concatenate ⟨1, ![4096]⟩ 0 [⟨⟨1, ![b]⟩, extractStridedSlice ⟨1, ![b]⟩ ![0] run h1⟩,
    ⟨⟨1, ![w]⟩, minimumf (extractStridedSlice ⟨1, ![w]⟩ ![b] run h2)
      (multiReduction .minimumf [0] ⟨1, ![w]⟩ t 0x7F800000#32 h6 h7 rfl)⟩] h3

theorem AccIs.next (hD : ∀ i j, D i j = D j i) (hb : b + w = 4096) (h256 : 256 ≤ w) (ht : TileIs D b w t)
    (hr : RunIs D b run) (ha : AccIs D b acc) {b' : ℕ} (hn : b + 256 = b') (h1 h2 h3 h4 h5 h6 h7 h8) :
    AccIs D b' (nextAcc b w acc run t h1 h2 h3 h4 h5 h6 h7 h8) := by
  subst hn
  have hb' : b + 256 ≤ 4096 := by omega
  unfold AccIs at *
  rw [nextAcc, sum_at, rowSum_add b 256 hb', ha]
  refine congrArg (_ + ·) (Finset.sum_congr rfl fun r _ => ?_)
  rw [← min_tail_colMin hD b w hb]
  refine congrArg₂ min ?_ ?_
  · rw [rowRed_at]
    exact congrArg (Finset.univ.inf) (funext fun c => ht hb' hb.le r c)
  · rw [slice1_at 256 run h8 r hb']
    exact hr _ (by rw [row_val]; omega)

/-- The least of the running column minimum and the tile's, at a column of the tile. -/
theorem colMin_tile (hb : b + 256 ≤ 4096) (hb' : b + w ≤ 4096) (ht : TileIs D b w t) (h6 h7) (c : Fin w) :
    min (colMin D b (row b w hb' c)) (multiReduction .minimumf [0] ⟨1, ![w]⟩ t 0x7F800000#32 h6 h7 rfl (ix1 c))
      = colMin D (b + 256) (row b w hb' c) := by
  rw [colMin_add b 256 hb, colRed_at]
  exact congrArg (min _) (congrArg (Finset.univ.inf) (funext fun r => ht hb hb' r c))

/-- Every column from `b` on is a column of a tile that reaches to the last one. -/
theorem eq_row (hb : b + w = 4096) (j : Fin 4096) (hj : b ≤ j.val) : ∃ c : Fin w, j = row b w hb.le c :=
  ⟨⟨j.val - b, by omega⟩, Fin.ext (by rw [row_val]; simp only []; omega)⟩

theorem RunIs.next (hb : b + w = 4096) (h256 : 256 ≤ w) (ht : TileIs D b w t) (hr : RunIs D b run)
    {b' : ℕ} (hn : b + 256 = b') (h1 h2 h6 h7 h3) : RunIs D b' (nextRun b w run t h1 h2 h6 h7 h3) := by
  subst hn
  intro j hj
  obtain ⟨c, rfl⟩ := eq_row hb j (by omega)
  rw [nextRun, cat_at, ← colMin_tile (by omega) hb.le ht h6 h7 c]
  refine congrArg₂ min ?_ rfl
  rw [slice1_at w run h2 c hb.le]
  exact hr _ (by rw [row_val]; omega)

/-- The same for the first tile, whose columns are all of them. -/
theorem RunIs.first {t : FVec Ideal ⟨2, ![256, 4096]⟩ .f32} (ht : TileIs D 0 4096 t) (hr : RunIs D 0 run) (h6 h7) :
    RunIs D 256 (minimumf run (multiReduction .minimumf [0] ⟨1, ![4096]⟩ t 0x7F800000#32 h6 h7 rfl)) := by
  intro j hj
  obtain ⟨c, rfl⟩ := eq_row (b := 0) (w := 4096) rfl j (by omega)
  have hc : row 0 4096 (le_refl 4096) c = c := Fin.ext (by rw [row_val, Nat.zero_add])
  refine (?_ : _ = _).trans (colMin_tile (by omega) (le_refl 4096) ht h6 h7 c)
  rw [hc]
  exact congrArg₂ min (hr c (Nat.zero_le _)) rfl

section
variable (hD : ∀ i j, D i j = D j i) {w₁ w₂ b₁ b₂ b₃ : ℕ} {t₁ : FVec Ideal ⟨2, ![256, w₁]⟩ .f32}
  {t₂ : FVec Ideal ⟨2, ![256, w₂]⟩ .f32} (hb : b + w = 4096) (hb₁ : b₁ + w₁ = 4096) (hb₂ : b₂ + w₂ = 4096)
  (h256 : 256 ≤ w₂) (hn : b + 256 = b₁) (hn₁ : b₁ + 256 = b₂) (hn₂ : b₂ + 256 = b₃)
  (k3 : Shape.Concatenates [⟨1, ![b]⟩, ⟨1, ![w]⟩] ⟨1, ![4096]⟩ 0)
  (k3' : Shape.Concatenates [⟨1, ![b₁]⟩, ⟨1, ![w₁]⟩] ⟨1, ![4096]⟩ 0)
  (ht : TileIs D b w t) (ht₁ : TileIs D b₁ w₁ t₁) (ht₂ : TileIs D b₂ w₂ t₂) (hr : RunIs D b run)
include hb hb₁ hb₂ h256 hn hn₁ hn₂ ht ht₁ ht₂ hr

/-- Three tiles after one another carry the running column minima over their 768 rows. -/
theorem RunIs.three (k3'') {k1 k2 k6 k7 k1' k2' k6' k7' k1'' k2'' k6'' k7''} :
    RunIs D b₃ (nextRun b₂ w₂ (nextRun b₁ w₁ (nextRun b w run t k1 k2 k6 k7 k3) t₁ k1' k2' k6' k7' k3') t₂
      k1'' k2'' k6'' k7'' k3'') :=
  RunIs.next hb₂ h256 ht₂ (RunIs.next hb₁ (by omega) ht₁ (RunIs.next hb (by omega) ht hr hn k1 k2 k6 k7 k3) hn₁
    k1' k2' k6' k7' k3') hn₂ _ _ _ _ _

include hD in
/-- Three tiles after one another carry the sum of the row minima over their 768 rows. -/
theorem AccIs.three (ha : AccIs D b acc) {k1 k2 k6 k7 k1' k2' k6' k7' h1 h2 h3 h4 h5 h6 h7 h8 h1' h2' h3' h4' h5'
    h6' h7' h8' h1'' h2'' h3'' h4'' h5'' h6'' h7'' h8''} :
    AccIs D b₃ (nextAcc b₂ w₂ (nextAcc b₁ w₁ (nextAcc b w acc run t h1 h2 h3 h4 h5 h6 h7 h8)
      (nextRun b w run t k1 k2 k6 k7 k3) t₁ h1' h2' h3' h4' h5' h6' h7' h8')
      (nextRun b₁ w₁ (nextRun b w run t k1 k2 k6 k7 k3) t₁ k1' k2' k6' k7' k3') t₂ h1'' h2'' h3'' h4'' h5'' h6'' h7'' h8'') :=
  have hr₁ := RunIs.next hb (by omega) ht hr hn k1 k2 k6 k7 k3
  AccIs.next hD hb₂ h256 ht₂ (RunIs.next hb₁ (by omega) ht₁ hr₁ hn₁ k1' k2' k6' k7' k3')
    (AccIs.next hD hb₁ (by omega) ht₁ hr₁ (AccIs.next hD hb (by omega) ht hr ha hn ..) hn₁ ..) hn₂ ..

end

end Cert.Chamfer

end
-- ==== Proof.Rows.lean ====
/- The eight rows that the kernel contracts. For a block of points with real coordinates, the product of column `i` of
   the one operand and column `j` of the other is the squared distance between the mirror image of point `i` and point
   `j`, and that is symmetric in `i` and `j`. -/
module

public import proofs.«01_k».proof.Proof.Gen.KernelIdeal.Skeleton
public import proofs.«01_k».proof.Proof.Consts

@[expose] public section

set_option maxRecDepth 16384

noncomputable section

namespace Cert.Chamfer

open Idealize.ShloMosaic

/-- The squared distance between the mirror image of point `i` in the plane `x = 0` and point `j`, expanded. -/
def dist {n : ℕ} (r : Fin n → Fin 3 → ℝ) (i j : Fin n) : ℝ :=
  (r i 0 * r i 0 + r i 1 * r i 1 + r i 2 * r i 2) + (r j 0 * r j 0 + r j 1 * r j 1 + r j 2 * r j 2)
    - 2 * (-(r i 0) * r j 0 + r i 1 * r j 1 + r i 2 * r j 2)

theorem dist_comm {n : ℕ} (r : Fin n → Fin 3 → ℝ) (i j : Fin n) : dist r i j = dist r j i := by
  unfold dist; ring

open Cert.KernelIdeal Cert.KernelIdeal.Gen

/-- The last two pairs of rows add the squared length of each of the two points: its second part, what rounding the first
    part loses, is zero here, for the coordinates are real. -/
theorem rows_mul (x : FVec Ideal S1x4096x3 .f32) (r : Fin 4096 → Fin 3 → ℝ)
    (hx : ∀ i c, x (ix3 0 i c) = (r i c : EReal)) (i j : Fin 4096) :
    ∑ k : Fin 8, k0_pay10 (F := Ideal) x (ix2 k i) * k0_pay11 (F := Ideal) x (ix2 k j) = (dist r i j : EReal) := by
  rw [Fin.sum_univ_eight]
  pointwise [k0_pay10, k0_pay11, k0_pay9, k0_pay8, k0_pay7, k0_pay6, k0_pay5, k0_pay4, k0_pay3, k0_pay2, k0_pay1, hx]
  rw [ofBits_two, ofBits_neg_two, mul_zero, add_zero]
  simp only [← EReal.coe_mul, ← EReal.coe_add, ← EReal.coe_sub]
  refine congrArg _ ?_
  unfold dist
  ring

end Cert.Chamfer

end
-- ==== Proof.Body.lean ====
/- What the kernel's body stores for a block of points with real coordinates: in every place, the sum over the points
   of the least squared distance from a point's mirror image. -/
module

public import proofs.«01_k».proof.Proof.Tile
public import proofs.«01_k».proof.Proof.Rows
public import proofs.«01_k».proof.Proof.Gen.KernelIdeal.Frame
public import Idealize.ShloMosaic.Lib.Pipeline.ValueKit

@[expose] public section

set_option maxRecDepth 16384

noncomputable section

namespace Cert.Chamfer

open Idealize.ShloMosaic
open Cert.KernelIdeal Cert.KernelIdeal.Gen

variable {D : Fin 4096 → Fin 4096 → EReal} {q p : FVec Ideal S8x4096 .bf16} {run : FVec Ideal S4096 .f32} {acc : EReal}

section
variable (hD : ∀ i j, D i j = D j i) (hqp : ∀ i j : Fin 4096, ∑ k : Fin 8, q (ix2 k i) * p (ix2 k j) = D i j)
include hqp

/-! Tiles two to thirteen, three at a time, as the body's parts hold them: each part is given the first of its three
    slices of `q`. -/

/-- The running column minima after tiles two to four. -/
theorem run_1024 (hr : RunIs D 256 run) : RunIs D 1024 (k0_pay23 (F := Ideal) q p run
    (extractStridedSlice S8x256 ![0, 256] q slices_S8x4096_o0_256_S8x256)) :=
  RunIs.three rfl rfl rfl (by decide) rfl rfl rfl concatenates_S256_S3840_S4096_d0 concatenates_S512_S3584_S4096_d0
    (tileIs hqp _ _ _) (tileIs hqp _ _ _) (tileIs hqp _ _ _) hr concatenates_S768_S3328_S4096_d0

include hD in
/-- The sum of the row minima after tiles two to four. -/
theorem acc_1024 (hr : RunIs D 256 run) (ha : AccIs D 256 acc) : AccIs D 1024 (k0_pay22 (F := Ideal) q p acc run
    (extractStridedSlice S8x256 ![0, 256] q slices_S8x4096_o0_256_S8x256)) :=
  AccIs.three hD rfl rfl rfl (by decide) rfl rfl rfl concatenates_S256_S3840_S4096_d0 concatenates_S512_S3584_S4096_d0
    (tileIs hqp _ _ _) (tileIs hqp _ _ _) (tileIs hqp _ _ _) hr ha

/-- The running column minima after tiles five to seven. -/
theorem run_1792 (hr : RunIs D 1024 run) : RunIs D 1792 (k0_pay31 (F := Ideal) q p run
    (extractStridedSlice S8x256 ![0, 1024] q slices_S8x4096_o0_1024_S8x256)) :=
  RunIs.three rfl rfl rfl (by decide) rfl rfl rfl concatenates_S1024_S3072_S4096_d0 concatenates_S1280_S2816_S4096_d0
    (tileIs hqp _ _ _) (tileIs hqp _ _ _) (tileIs hqp _ _ _) hr concatenates_S1536_S2560_S4096_d0

include hD in
/-- The sum of the row minima after tiles five to seven. -/
theorem acc_1792 (hr : RunIs D 1024 run) (ha : AccIs D 1024 acc) : AccIs D 1792 (k0_pay30 (F := Ideal) q p acc run
    (extractStridedSlice S8x256 ![0, 1024] q slices_S8x4096_o0_1024_S8x256)) :=
  AccIs.three hD rfl rfl rfl (by decide) rfl rfl rfl concatenates_S1024_S3072_S4096_d0 concatenates_S1280_S2816_S4096_d0
    (tileIs hqp _ _ _) (tileIs hqp _ _ _) (tileIs hqp _ _ _) hr ha

/-- The running column minima after tiles eight to ten. -/
theorem run_2560 (hr : RunIs D 1792 run) : RunIs D 2560 (k0_pay39 (F := Ideal) q p run
    (extractStridedSlice S8x256 ![0, 1792] q slices_S8x4096_o0_1792_S8x256)) :=
  RunIs.three rfl rfl rfl (by decide) rfl rfl rfl concatenates_S1792_S2304_S4096_d0 concatenates_S2048_S2048_S4096_d0
    (tileIs hqp _ _ _) (tileIs hqp _ _ _) (tileIs hqp _ _ _) hr concatenates_S2304_S1792_S4096_d0

include hD in
/-- The sum of the row minima after tiles eight to ten. -/
theorem acc_2560 (hr : RunIs D 1792 run) (ha : AccIs D 1792 acc) : AccIs D 2560 (k0_pay38 (F := Ideal) q p acc run
    (extractStridedSlice S8x256 ![0, 1792] q slices_S8x4096_o0_1792_S8x256)) :=
  AccIs.three hD rfl rfl rfl (by decide) rfl rfl rfl concatenates_S1792_S2304_S4096_d0 concatenates_S2048_S2048_S4096_d0
    (tileIs hqp _ _ _) (tileIs hqp _ _ _) (tileIs hqp _ _ _) hr ha

/-- The running column minima after tiles eleven to thirteen. -/
theorem run_3328 (hr : RunIs D 2560 run) : RunIs D 3328 (k0_pay47 (F := Ideal) q p run
    (extractStridedSlice S8x256 ![0, 2560] q slices_S8x4096_o0_2560_S8x256)) :=
  RunIs.three rfl rfl rfl (by decide) rfl rfl rfl concatenates_S2560_S1536_S4096_d0 concatenates_S2816_S1280_S4096_d0
    (tileIs hqp _ _ _) (tileIs hqp _ _ _) (tileIs hqp _ _ _) hr concatenates_S3072_S1024_S4096_d0

include hD in
/-- The sum of the row minima after tiles eleven to thirteen. -/
theorem acc_3328 (hr : RunIs D 2560 run) (ha : AccIs D 2560 acc) : AccIs D 3328 (k0_pay46 (F := Ideal) q p acc run
    (extractStridedSlice S8x256 ![0, 2560] q slices_S8x4096_o0_2560_S8x256)) :=
  AccIs.three hD rfl rfl rfl (by decide) rfl rfl rfl concatenates_S2560_S1536_S4096_d0 concatenates_S2816_S1280_S4096_d0
    (tileIs hqp _ _ _) (tileIs hqp _ _ _) (tileIs hqp _ _ _) hr ha

/-- The last three tiles, and the store: the sum of all row minima in every place. -/
theorem stored (hD : ∀ i j, D i j = D j i) (hr : RunIs D 3328 run) (ha : AccIs D 3328 acc) (y : S1x8x128.Idx) :
    k0_pay49 (F := Ideal) q p acc run (extractStridedSlice S8x256 ![0, 3328] q slices_S8x4096_o0_3328_S8x256) y
      = rowSum D 4096 :=
  AccIs.three (b₃ := 4096) hD rfl rfl rfl (by decide) rfl rfl rfl concatenates_S3328_S768_S4096_d0
    concatenates_S3584_S512_S4096_d0 (tileIs hqp _ _ _) (tileIs hqp _ _ _) (tileIs hqp _ _ _) hr ha

end

section
variable (x : FVec Ideal S1x4096x3 .f32)
  (hqp : ∀ i j : Fin 4096, ∑ k : Fin 8, k0_pay10 (F := Ideal) x (ix2 k i) * k0_pay11 (F := Ideal) x (ix2 k j) = D i j)
include hqp

/-- Before the first tile the running column minima are all infinite. -/
theorem run_0 : RunIs D 0 (k0_pay12 (F := Ideal)) := fun j _ => by
  rw [colMin_zero]
  exact ofBits_inf

/-- The first tile's product. -/
theorem tile_0 : TileIs D 0 4096 (k0_pay13 (F := Ideal) x) := tileIs_first hqp _ _

/-- The running column minima after the first tile. -/
theorem run_256 : RunIs D 256 (k0_pay15 (F := Ideal) x) := RunIs.first (tile_0 x hqp) (run_0 x hqp) _ _

/-- The sum of the row minima after the first tile. -/
theorem acc_256 (hD : ∀ i j, D i j = D j i) : AccIs D 256 (k0_pay14 (F := Ideal) x) :=
  AccIs.next hD rfl (by decide) (tile_0 x hqp) (run_0 x hqp) ((Ideal.ofBits_zero .f32).trans rowSum_zero.symm) rfl _ _ _ _ _ _ _ _

end

/-- What the body stores for a block of points with real coordinates. -/
theorem out_at (x : FVec Ideal S1x4096x3 .f32) (r : Fin 4096 → Fin 3 → ℝ) (hx : ∀ i c, x (ix3 0 i c) = (r i c : EReal))
    (y : S1x8x128.Idx) : out0_1 (F := Ideal) x y = ∑ i, rowMin (fun i j => (dist r i j : EReal)) i := by
  have hqp := rows_mul x r hx
  have hD : ∀ i j : Fin 4096, ((dist r i j : ℝ) : EReal) = dist r j i := fun i j => congrArg _ (dist_comm r i j)
  have r1 := run_256 x hqp
  have r2 := run_1024 hqp r1
  have r3 := run_1792 hqp r2
  have r4 := run_2560 hqp r3
  rw [← rowSum_all]
  unfold_out out0_1
  frame_out
  exact stored hqp hD (run_3328 hqp r4) (acc_3328 hD hqp r4 (acc_2560 hD hqp r3 (acc_1792 hD hqp r2
    (acc_1024 hD hqp r1 (acc_256 x hqp hD))))) y

end Cert.Chamfer

end
-- ==== Proof.Cloud.lean ====
/- The sum of the row minima of one cloud's matrix of distances: a real number, and the sum of the column minima too. -/
module

public import proofs.«01_k».proof.Proof.Rows
public import proofs.«01_k».proof.Proof.Fold

@[expose] public section

noncomputable section

namespace Cert.Chamfer

variable {n : ℕ}

/-- The sum of the row minima of one cloud's matrix of distances. -/
def cloud (r : Fin n → Fin 3 → ℝ) : EReal := ∑ i, rowMin (fun i j => (dist r i j : EReal)) i

theorem cloud_real [NeZero n] (r : Fin n → Fin 3 → ℝ) : ∃ s : ℝ, cloud r = s :=
  sum_real _ _ fun i => rowMin_real (fun i j => ⟨dist r i j, rfl⟩) i

/-- The distances are symmetric, so the column minima have the same sum. -/
theorem cloud_columns (r : Fin n → Fin 3 → ℝ) : ∑ j, Finset.univ.inf (fun i => (dist r i j : EReal)) = cloud r :=
  Finset.sum_congr rfl fun j _ => congrArg Finset.univ.inf (funext fun i => congrArg _ (dist_comm r i j))

end Cert.Chamfer

end
-- ==== Proof.Value.lean ====
/- What the kernel returns for points with real coordinates: the sum over the batch of each cloud's row minima, times
   `1 / 8192`. -/
module

public import proofs.«01_k».proof.Proof.Body
public import proofs.«01_k».proof.Proof.Cloud
public import Idealize.ShloMosaic.Lib.StableHlo.ReadAt

@[expose] public section

set_option maxRecDepth 16384

noncomputable section

namespace Cert.Chamfer

open Idealize.ShloMosaic Idealize.ShloMosaic.TcCoe Idealize.SL.Sem
open Idealize.ShloMosaic.Pipeline (Dat)
open Cert.KernelIdeal Cert.KernelIdeal.Gen

/-- Grid point `t` works on cloud `t`, and writes block `t`. -/
theorem idx : ∀ t : Fin cfg0.N, win0_0.index t = ![t.val, 0, 0] ∧ win0_1.index t = ![t.val, 0, 0] ∧ t.val < 4 :=
  (by decide +kernel : ∀ t : Fin grid0.N, _)

variable (m : (ℓ : Loc nD τ sig) → Buf (Elt Ideal) ℓ) (c : Dev nD) (r : Fin 4 → Fin 4096 → Fin 3 → ℝ)
  (hx : ∀ b i k, (m ((c : Thread nD τ).loc main_arg0) : FVec Ideal S4x4096x3 .f32) (ix3 b i k) = (r b i k : EReal))
include hx

/-- The array that the grid fills: block `b` holds cloud `b`'s sum. -/
theorem array : (dats m 0 c).arrAt 1 (cfgs 0).N = (fun i => cloud (r (i 0)) : FVec Ideal S4x8x128 .f32) := by
  refine (dats m 0 c).arrAt_eq_of_covers 1 _ (by decide +kernel) fun t _ y => ?_
  blk_simp
  rw [after0_1]
  refine (out_at _ (r ⟨t.val, (idx t).2.2⟩) (fun i k => ?_) y).trans ?_
  · rw [← hx]
    blk_ext [iblk, V, idx t]
  · refine congrArg (fun b => cloud (r b)) (Fin.ext ?_)
    blk_simp [idx t]

/-- What the host code after the grid makes of it. -/
theorem result : Pipeline.afterTail₀ cfgs (dats m) 0 (V0 m) [hostOps1] c main_v4
    = (fun _ => (∑ b, cloud (r b)) * ((1 / 8192 : ℝ) : EReal) : FVec Ideal S_ .f32) := by
  unfold Pipeline.afterTail₀
  have ha := Pipeline.withArrays_arr (cfgs 0).spec winFacts0.arr_inj c (V0 m c) (fun w => (dats m 0 c).arrAt w (cfgs 0).N) 1
  rw [array m c r hx] at ha
  funext i
  after_reads_at
  rw [ofBits_scale, mul_comm]
  exact congrArg (· * _) (Finset.sum_congr rfl fun b _ => congrFun ha (ix3 b 0 0))

end Cert.Chamfer

end
-- ==== Proof.Reference.lean ====
/- What the reference returns for points with real coordinates: the same sum, times `1 / 8192`. -/
module

public import proofs.«01_k».proof.Proof.Cloud
public import proofs.«01_k».proof.Proof.Gen.ReferenceIdeal.Run
public import Idealize.ShloMosaic.Lib.StableHlo.ReadAt

@[expose] public section

set_option maxRecDepth 16384

noncomputable section

namespace Cert.Chamfer

open Idealize.ShloMosaic Idealize.ShloMosaic.TcCoe Idealize.SL.Sem
open Cert.ReferenceIdeal Cert.ReferenceIdeal.Gen Cert.ReferenceIdeal.Value

/-- The reference's mirrored points. -/
abbrev mirrored (x : FVec Ideal S4x4096x3 .f32) : FVec Ideal S4x4096x3 .f32 :=
  mulf x (broadcastInDim S4x4096x3 ![0, 1, 2] bcast_S1x1x3_S4x4096x3_0_1_2
    (shapeCast S1x1x3 (fun i => FloatOps.ofBits .f32 (lit0 (S3.rowMajor i))) shapeCasts_S3_S1x1x3))

/-- The reference's matrices of squared distances. -/
abbrev distances (x : FVec Ideal S4x4096x3 .f32) : FVec Ideal S4x4096x4096 .f32 :=
  subf (addf
      (broadcastInDim S4x4096x4096 ![0, 1, 2] bcast_S4x4096x1_S4x4096x4096_0_1_2
        (broadcastInDim S4x4096x1 ![0, 1] bcast_S4x4096_S4x4096x1_0_1
          (Host.reduceAdd (mulf (mirrored x) (mirrored x)) (constant S_ .f32 0x00000000#32) reducesTo_S4x4096x3_S4x4096_d2 h_S_)))
      (broadcastInDim S4x4096x4096 ![0, 1, 2] bcast_S4x1x4096_S4x4096x4096_0_1_2
        (transpose S4x1x4096 [0, 2, 1] (broadcastInDim S4x4096x1 ![0, 1] bcast_S4x4096_S4x4096x1_0_1
          (Host.reduceAdd (mulf x x) (constant S_ .f32 0x00000000#32) reducesTo_S4x4096x3_S4x4096_d2 h_S_))
          transposes_S4x4096x1_S4x1x4096_0_2_1)))
    (mulf (broadcastInDim S4x4096x4096 ![] bcast_S_S4x4096x4096 (constant S_ .f32 0x40000000#32))
      (Host.dotGeneral dot_S4x4096x3_S4x4096x3_S4x4096x4096_2_2_1_1_0_0 none (mirrored x) x))

/-- The loss that the reference makes of its distances. -/
abbrev loss (d : FVec Ideal S4x4096x4096 .f32) : FVec Ideal S_ .f32 :=
  Host.divf (Host.reduceAdd (addf
      (addf
        (Host.divf (Host.reduceAdd (Host.reduce FloatOps.minimumf d (constant S_ .f32 0x7F800000#32) reducesTo_S4x4096x4096_S4x4096_d2 h_S_)
          (constant S_ .f32 0x00000000#32) reducesTo_S4x4096_S4_d1 h_S_) (broadcastInDim S4 ![] bcast_S_S4 (constant S_ .f32 0x45800000#32)))
        (mulf (Host.reduce FloatOps.maximumf
            (Host.reduce FloatOps.minimumf d (constant S_ .f32 0x7F800000#32) reducesTo_S4x4096x4096_S4x4096_d2 h_S_)
            (constant S_ .f32 0xFF800000#32) reducesTo_S4x4096_S4_d1 h_S_)
          (broadcastInDim S4 ![] bcast_S_S4 (constant S_ .f32 0x00000000#32))))
      (mulf (broadcastInDim S4 ![] bcast_S_S4 (constant S_ .f32 0x3F800000#32))
        (Host.divf (Host.reduceAdd (Host.reduce FloatOps.minimumf d (constant S_ .f32 0x7F800000#32) reducesTo_S4x4096x4096_S4x4096_d1 h_S_)
          (constant S_ .f32 0x00000000#32) reducesTo_S4x4096_S4_d1 h_S_) (broadcastInDim S4 ![] bcast_S_S4 (constant S_ .f32 0x45800000#32)))))
    (constant S_ .f32 0x00000000#32) reducesTo_S4_S_d0 h_S_) (constant S_ .f32 0x40800000#32)

/-- The reference's result is the loss of its distances. -/
theorem res_eq (m : (ℓ : Loc nD τ sig) → Buf (Elt Ideal) ℓ) (c : Dev nD) :
    res_main_v33 m c = loss (distances (m ((c : Thread nD τ).loc main_arg0))) := rfl

/-- For real coordinates they are the expanded squared distances. -/
theorem distances_at (x : FVec Ideal S4x4096x3 .f32) (r : Fin 4 → Fin 4096 → Fin 3 → ℝ)
    (hx : ∀ b i k, x (ix3 b i k) = (r b i k : EReal)) (b : Fin 4) (i j : Fin 4096) :
    distances x (ix3 b i j) = (dist (r b) i j : EReal) := by
  pointwise [Fin.sum_univ_three, hx]
  have h0 : lit0 (S3.rowMajor (ix1 0)) = 0xBF800000#32 := by decide
  have h1 : lit0 (S3.rowMajor (ix1 1)) = 0x3F800000#32 := by decide
  have h2 : lit0 (S3.rowMajor (ix1 2)) = 0x3F800000#32 := by decide
  rw [h0, h1, h2, ofBits_neg_one, ofBits_two, ofBits_one]
  simp only [← EReal.coe_mul, ← EReal.coe_add, ← EReal.coe_sub]
  refine congrArg _ ?_
  unfold dist
  ring

/-- The largest row minimum counts for nothing, and a row's least entry and a column's have the same sum. -/
theorem loss_at (d : FVec Ideal S4x4096x4096 .f32) (r : Fin 4 → Fin 4096 → Fin 3 → ℝ)
    (hd : ∀ b i j, d (ix3 b i j) = (dist (r b) i j : EReal)) (i : S_.Idx) :
    loss d i = (∑ b, cloud (r b)) * ((1 / 8192 : ℝ) : EReal) := by
  pointwise [hd, ofBits_inf]
  have hr : ∀ b, ∑ i, Finset.univ.fold min ⊤ (fun j => (dist (r b) i j : EReal)) = cloud (r b) := fun _ => rfl
  have hc : ∀ b, ∑ j, Finset.univ.fold min ⊤ (fun i => (dist (r b) i j : EReal)) = cloud (r b) :=
    fun b => cloud_columns (r b)
  choose s hs using fun b => cloud_real (r b)
  simp only [hr, hc, hs, mul_zero, add_zero, ofBits_four, ofBits_4096, Fin.sum_univ_four]
  simp only [Ideal.div_coe (show (4 : ℝ) ≠ 0 by norm_num), Ideal.div_coe (show (4096 : ℝ) ≠ 0 by norm_num), ← EReal.coe_mul, ← EReal.coe_add]
  refine congrArg _ ?_
  ring

/-- What the reference returns. -/
theorem reference_result (m : (ℓ : Loc nD τ sig) → Buf (Elt Ideal) ℓ) (c : Dev nD) (r : Fin 4 → Fin 4096 → Fin 3 → ℝ)
    (hx : ∀ b i k, (m ((c : Thread nD τ).loc main_arg0) : FVec Ideal S4x4096x3 .f32) (ix3 b i k) = (r b i k : EReal)) :
    res_main_v33 m c = (fun _ => (∑ b, cloud (r b)) * ((1 / 8192 : ℝ) : EReal) : FVec Ideal S_ .f32) :=
  (res_eq m c).trans (funext (loss_at _ r (distances_at _ r hx)))

end Cert.Chamfer

end
-- ==== Proof.Finite.lean ====
/- What the precondition says: every coordinate is a real number. -/
module

public import proofs.«01_k».proof.Defs
public import proofs.«01_k».proof.Proof.Consts
public import Idealize.ShloMosaic.Lib.ReduceAll

@[expose] public section

set_option maxRecDepth 16384

noncomputable section

namespace Cert.Chamfer

open Idealize.ShloMosaic Idealize.ShloMosaic.TcCoe Idealize.SL.Sem

/-- An extended real whose absolute value is below infinity is a real number. -/
theorem real_of_abs_lt {x : EReal} (h : max x (-x) < ⊤) : ∃ a : ℝ, x = a := by
  induction x using EReal.rec with
  | bot => simp at h
  | coe a => exact ⟨a, rfl⟩
  | top => simp at h

/-- The precondition makes every coordinate a real number. -/
theorem real_of_finite [Cert.Pre_finite.Facts] (x : FVec Ideal Cert.Pre_finite.S4x4096x3 .f32)
    (h : Cert.Pre_finite.fn (F := Ideal) x = fun _ => 1#1) :
    ∃ r : Fin 4 → Fin 4096 → Fin 3 → ℝ, ∀ b i k, x (ix3 b i k) = (r b i k : EReal) := by
  have : Subsingleton Cert.Pre_finite.S_.Idx := ⟨fun a b => funext fun d => d.elim0⟩
  have hx : ∀ b i k, ∃ a : ℝ, x (ix3 b i k) = a := fun b i k => by
    have h0 := Host.reduce_andi_all _ _ _ _ _ (congrFun h fun d => d.elim0) (ix3 b i k)
    pointwise at h0
    rw [ofBits_inf] at h0
    by_cases hlt : FloatOps.absf (x (ix3 b i k)) < (⊤ : EReal)
    · exact real_of_abs_lt hlt
    · rw [decide_eq_false hlt] at h0
      exact absurd h0 (by decide)
  choose r hr using hx
  exact ⟨r, hr⟩

end Cert.Chamfer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Value
public import proofs.«01_k».proof.Proof.Reference
public import proofs.«01_k».proof.Proof.Finite
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its argument as it was, and with every counter at zero, for it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0 :=
  (θ_run Cert.ReferenceIdeal.defs _ _).mono
    (fun r h => ⟨fun c => (h c).2, sem_eq_zero_of_no_sems (by decide) r.2⟩) (Cert.ReferenceIdeal.Value.run m g)

theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial, by
      pair_intro
      · run_from Cert.KernelIdeal.Gen.run_main m g
      · run_from Cert.ReferenceIdeal.Value.run m' g'
        obtain ⟨r, hr⟩ := Cert.Chamfer.real_of_finite _ (hpre c)
        rw [Cert.Chamfer.result m c r hr]
        exact Cert.Chamfer.reference_result m' c r fun b i k => (congrFun (hagree c) (ix3 b i k)).trans (hr b i k)⟩

end Cert.Proof

end
